-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S8192x1024 : Shape := ⟨2, ![8192, 1024]⟩
abbrev S4096x128 : Shape := ⟨2, ![4096, 128]⟩
abbrev S1024x128 : Shape := ⟨2, ![1024, 128]⟩
abbrev S256x8 : Shape := ⟨2, ![256, 8]⟩
abbrev S1 : Shape := ⟨1, ![1]⟩
abbrev S_ : Shape := ⟨0, ![]⟩
abbrev S8192x8 : Shape := ⟨2, ![8192, 8]⟩
abbrev S512x4096 : Shape := ⟨2, ![512, 4096]⟩
abbrev S512x1024 : Shape := ⟨2, ![512, 1024]⟩
abbrev S512x8 : Shape := ⟨2, ![512, 8]⟩
abbrev S512x128 : Shape := ⟨2, ![512, 128]⟩
abbrev S128x8 : Shape := ⟨2, ![128, 8]⟩
abbrev S512 : Shape := ⟨1, ![512]⟩
abbrev S512x1 : Shape := ⟨2, ![512, 1]⟩

abbrev nBuf : Space → Nat
  | .hbm => 15
  | .vmem => 11
  | .smem => 1
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x128, .f32⟩
  | .hbm, ⟨3, _⟩ => ⟨S1024x128, .f32⟩
  | .hbm, ⟨4, _⟩ => ⟨S256x8, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S8192x8, .f32⟩
  | .hbm, ⟨14, _⟩ => ⟨S8192x8, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S4096x128, .f32⟩
  | .local _ .vmem, ⟨5, _⟩ => ⟨S1024x128, .f32⟩
  | .local _ .vmem, ⟨6, _⟩ => ⟨S256x8, .f32⟩
  | .local _ .vmem, ⟨7, _⟩ => ⟨S512x8, .f32⟩
  | .local _ .vmem, ⟨8, _⟩ => ⟨S512x8, .f32⟩
  | .local _ .vmem, ⟨9, _⟩ => ⟨S512x8, .f32⟩
  | .local _ .vmem, ⟨10, _⟩ => ⟨S512x8, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_v0_0 : Ref sig .tc := ⟨.hbm, 13, rfl⟩
abbrev main_v0_1 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x4096 : Shape := ⟨2, ![8192, 4096]⟩
abbrev S8192x1024 : Shape := ⟨2, ![8192, 1024]⟩
abbrev S4096x128 : Shape := ⟨2, ![4096, 128]⟩
abbrev S1024x128 : Shape := ⟨2, ![1024, 128]⟩
abbrev S256x8 : Shape := ⟨2, ![256, 8]⟩
abbrev S1 : Shape := ⟨1, ![1]⟩
abbrev S8192x128 : Shape := ⟨2, ![8192, 128]⟩
abbrev S8192x256 : Shape := ⟨2, ![8192, 256]⟩
abbrev S8192x8 : Shape := ⟨2, ![8192, 8]⟩
abbrev S_ : Shape := ⟨0, ![]⟩
abbrev S1x1 : Shape := ⟨2, ![1, 1]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x128, .f32⟩
  | .hbm, ⟨3, _⟩ => ⟨S1024x128, .f32⟩
  | .hbm, ⟨4, _⟩ => ⟨S256x8, .f32⟩
  | .hbm, ⟨5, _⟩ => ⟨S1, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S8192x8, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x8, .f32⟩
  | .hbm, ⟨30, _⟩ => ⟨S8192x8, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Proof.Scalar.lean ====
/- Hand-written: THE TWO FACTS ABOUT EXTENDED REALS on which the two programs' arithmetic differs. The kernel multiplies by
   the reciprocal of the clamped temperature where the reference divides by it; the reference takes one more maximum with
   minus infinity. Both agree at every extended real. -/
module

public import Idealize.ShloMosaic.Lib.Pointwise
public import Idealize.ShloMosaic.Lib.IdealHost

@[expose] public section

set_option maxRecDepth 16384

noncomputable section

namespace Cert.Proof.Scalar

open Idealize.ShloMosaic

/-- The temperature's lower clamp: the 32-bit float nearest 0.1, as an extended real. -/
def floorT : EReal := Ideal.ofBits .f32 0x3DCCCCCD#32

/-- The clamp is positive. -/
theorem floorT_pos : 0 < floorT := by
  unfold floorT
  simp [Ideal.ofBits, Ideal.ieee, -EReal.coe_mul]

/-- The pattern of minus infinity denotes the least extended real. -/
theorem negInf : Ideal.ofBits .f32 0xFF800000#32 = (⊥ : EReal) := by
  simp [Ideal.ofBits, Ideal.ieee]

/-- A clamped temperature is not zero. -/
theorem clamp_ne_zero (x : EReal) : max floorT x ≠ 0 :=
  (lt_of_lt_of_le floorT_pos (le_max_left _ _)).ne'

/-- Multiplying by the reciprocal of the clamped temperature is dividing by it. -/
theorem mul_recip_clamp (x t : EReal) : x * Ideal.div 1 (max floorT t) = Ideal.div x (max floorT t) :=
  Ideal.mul_one_div (clamp_ne_zero t)

end Cert.Proof.Scalar

end
-- ==== Proof.Router.lean ====
/- Hand-written: THE MATHEMATICS BOTH PROGRAMS COMPUTE, one row at a time, over extended reals: a row's logit at an expert
   (`logit`) and the softmax of a row of logits (`softmax`). Neither definition mentions arrays or programs. -/
module

public import proofs.«01_k».proof.Proof.Scalar

@[expose] public section

noncomputable section

namespace Cert.Proof.Router

open Idealize.ShloMosaic Cert.Proof.Scalar

/-- A row's logit at expert `e`: its two feature vectors `x` and `y`, each projected to 128 numbers by its own matrix,
    weighted by the upper and by the lower half of the expert matrix's column `e`, added, and divided by the clamped
    temperature. -/
def logit (x : Fin 4096 → EReal) (y : Fin 1024 → EReal) (A : Fin 4096 → Fin 128 → EReal) (B : Fin 1024 → Fin 128 → EReal)
    (C : Fin 256 → Fin 8 → EReal) (t : EReal) (e : Fin 8) : EReal :=
  Ideal.div
    (∑ j : Fin 128, (∑ k : Fin 4096, x k * A k j) * C ⟨j.val, by omega⟩ e
      + ∑ j : Fin 128, (∑ k : Fin 1024, y k * B k j) * C ⟨128 + j.val, by omega⟩ e)
    (max floorT t)

/-- The exponential of a row's logit at `e` less the row's maximum. -/
def numer (l : Fin 8 → EReal) (e : Fin 8) : EReal := Ideal.exp (l e - Finset.univ.fold max (⊥ : EReal) l)

/-- The softmax of a row of eight logits at expert `e`. -/
def softmax (l : Fin 8 → EReal) (e : Fin 8) : EReal := Ideal.div (numer l e) (∑ k : Fin 8, numer l k)

end Cert.Proof.Router

end
-- ==== Proof.Block.lean ====
/- Hand-written: WHAT ONE GRID POINT COMPUTES, element by element. The two values the body stores are read at a row of the
   block and an expert: the logit of that row, and the softmax of that row of logits. -/
module

public import proofs.«01_k».proof.Proof.Gen.KernelIdeal.Skeleton
public import proofs.«01_k».proof.Proof.Router

@[expose] public section

set_option maxRecDepth 16384

noncomputable section

namespace Cert.Proof.Block

open Cert.KernelIdeal Cert.KernelIdeal.Gen Idealize.ShloMosaic Idealize.ShloMosaic.TcCoe Idealize.SL.Sem
open Cert.Proof.Scalar Cert.Proof.Router

/-- The body's first stored value at row `r` of the block and expert `e`, when the scalar it multiplies by is the reciprocal
    of the clamped temperature `t` and its two expert matrices are the halves of `C`: the logit of that row. -/
theorem pay1_at (x : FVec Ideal S512x4096 .f32) (a : FVec Ideal S4096x128 .f32) (y : FVec Ideal S512x1024 .f32)
    (b : FVec Ideal S1024x128 .f32) (c0 c1 : FVec Ideal S128x8 .f32) (s : EReal) (C : Fin 256 → Fin 8 → EReal) (t : EReal)
    (h0 : ∀ (j : Fin 128) (e : Fin 8), c0 (ix2 j e) = C ⟨j.val, by omega⟩ e)
    (h1 : ∀ (j : Fin 128) (e : Fin 8), c1 (ix2 j e) = C ⟨128 + j.val, by omega⟩ e)
    (hs : s = Ideal.div 1 (max floorT t)) (r : Fin 512) (e : Fin 8) :
    k0_pay1 (F := Ideal) x a y b c0 c1 s (ix2 r e)
      = logit (fun k => x (ix2 r k)) (fun k => y (ix2 r k)) (fun k j => a (ix2 k j)) (fun k j => b (ix2 k j)) C t e := by
  pointwise [k0_pay1, h0, h1]
  subst hs
  exact mul_recip_clamp _ t

/-- The body's second stored value at row `r` and expert `e`: the softmax of row `r` of the first. -/
theorem pay2_at (x : FVec Ideal S512x4096 .f32) (a : FVec Ideal S4096x128 .f32) (y : FVec Ideal S512x1024 .f32)
    (b : FVec Ideal S1024x128 .f32) (c0 c1 : FVec Ideal S128x8 .f32) (s : EReal) (r : Fin 512) (e : Fin 8) :
    k0_pay2 (F := Ideal) x a y b c0 c1 s (ix2 r e)
      = softmax (fun e => k0_pay1 (F := Ideal) x a y b c0 c1 s (ix2 r e)) e := by
  pointwise [k0_pay2]
  rw [negInf]
  rfl

end Cert.Proof.Block

end
-- ==== Proof.KernelValue.lean ====
/- Hand-written: THE KERNEL'S TWO RESULT ARRAYS AS FUNCTIONS OF ITS ARGUMENT ARRAYS. What a grid point leaves in each output
   buffer is one stored value over the input buffers (`out6_eq`, `out7_eq`); grid point `t` reads and writes rows `512 t` to
   `512 t + 511` (`iblk…_at`, `emb_out`), so what it writes back is its block of one whole-array function (`flushed…_eq`);
   the sixteen blocks cover the arrays (`cover…`), so the arrays after the run are those functions (`final…`, `run`). -/
module

public import proofs.«01_k».proof.Proof.Gen.KernelIdeal.Value
public import proofs.«01_k».proof.Proof.Block

@[expose] public section

set_option maxRecDepth 16384

noncomputable section

namespace Cert.Proof.KernelValue

open Cert.KernelIdeal Cert.KernelIdeal.Gen Cert.KernelIdeal.Value Idealize.ShloMosaic Idealize.ShloMosaic.TcCoe Idealize.SL.Sem
open Cert.Proof.Scalar Cert.Proof.Router Cert.Proof.Block

/-! ## The two result arrays as functions of the argument arrays -/

/-- All the logits: the logit of each row at each expert. -/
def GLogits (X : FVec Ideal S8192x4096 .f32) (Y : FVec Ideal S8192x1024 .f32) (A : FVec Ideal S4096x128 .f32)
    (B : FVec Ideal S1024x128 .f32) (C : FVec Ideal S256x8 .f32) (T : FVec Ideal S1 .f32) : FVec Ideal S8192x8 .f32 :=
  fun i => logit (fun k => X (ix2 (i 0) k)) (fun k => Y (ix2 (i 0) k)) (fun k j => A (ix2 k j)) (fun k j => B (ix2 k j))
    (fun j e => C (ix2 j e)) (T (ix1 0)) (i 1)

/-- All the probabilities: the softmax of each row of logits. -/
def GProbs (L : FVec Ideal S8192x8 .f32) : FVec Ideal S8192x8 .f32 := fun i => softmax (fun e => L (ix2 (i 0) e)) (i 1)

/-! ## What one grid point leaves in the output buffers -/

/-- The offset pair of a whole-buffer access is zero on both axes. -/
theorem hz : (![0, 0] : Fin 2 → Nat) = fun _ => 0 := funext fun a => by fin_cases a <;> rfl

/-- The upper half of the expert matrix: rows 0 to 127. -/
def upper (C : Vec Ideal S256x8 .f32) : Vec Ideal S128x8 .f32 :=
  fun i => C (ix2 ⟨(i 0).val, by have := (i 0).isLt; simp at this; omega⟩ (i 1))

/-- The lower half of the expert matrix: rows 128 to 255. -/
def lower (C : Vec Ideal S256x8 .f32) : Vec Ideal S128x8 .f32 :=
  fun i => C (ix2 ⟨128 + (i 0).val, by have := (i 0).isLt; simp at this; omega⟩ (i 1))

/-- What the body leaves in the buffer of the logits: the first value it stores, over the contents of the input
    buffers, the halves of the expert matrix and the one scalar. -/
theorem out7_eq (c : Dev nD) (i : grid0.Coords) (arg1 : Memref sig .tc .smem S1 .f32) (harg1 : arg1.IsWhole)
    (arg2 : Memref sig .tc .vmem S512x4096 .f32) (harg2 : arg2.IsWhole) (arg3 : Memref sig .tc .vmem S512x1024 .f32)
    (harg3 : arg3.IsWhole) (arg4 : Memref sig .tc .vmem S4096x128 .f32) (harg4 : arg4.IsWhole)
    (arg5 : Memref sig .tc .vmem S1024x128 .f32) (harg5 : arg5.IsWhole) (arg6 : Memref sig .tc .vmem S256x8 .f32)
    (harg6 : arg6.IsWhole) (arg7 : Memref sig .tc .vmem S512x8 .f32) (harg7 : arg7.IsWhole)
    (arg8 : Memref sig .tc .vmem S512x8 .f32) (harg8 : arg8.IsWhole)
    (x0 : Vec Ideal S1 .f32) (x1 : Vec Ideal S512x4096 .f32) (x2 : Vec Ideal S512x1024 .f32) (x3 : Vec Ideal S4096x128 .f32)
    (x4 : Vec Ideal S1024x128 .f32) (x5 : Vec Ideal S256x8 .f32) :
    out0_A_7 c i arg1 harg1 arg2 harg2 arg3 harg3 arg4 harg4 arg5 harg5 arg6 harg6 arg7 harg7 arg8 harg8 x0 x1 x2 x3 x4 x5
      = k0_pay1 (F := Ideal) x1 x3 x2 x4 (upper x5) (lower x5) (x0 (ix1 0)) := by
  unfold out0_A_7
  rw [View.read_writes_junk_eq_canon]
  unfold kernelRun0_A
  dsimp only
  unfold kernelRun0_A.sl.r
  rw [View.canon_unit_zero hz]
  simp only [View.readAt_eq_ld, harg1.read_unread, harg2.read_unread, harg3.read_unread, harg4.read_unread,
    harg5.read_unread, harg6.read_unread]
  rw [View.ld_unit_zero hz, View.ld_unit_zero hz, View.ld_unit_zero hz, View.ld_unit_zero hz]
  refine congr (congrArg₂ (k0_pay1 (F := Ideal) x1 x3 x2 x4) (funext fun j => ?_) (funext fun j => ?_)) ?_
  · pointwise [upper]
  · pointwise [lower]
  · exact congrArg x0 (funext fun a => by match a with | ⟨0, _⟩ => rfl)

/-- What the body leaves in the buffer of the probabilities: the second value it stores, over the contents of the input
    buffers, the halves of the expert matrix and the one scalar. -/
theorem out6_eq (c : Dev nD) (i : grid0.Coords) (arg1 : Memref sig .tc .smem S1 .f32) (harg1 : arg1.IsWhole)
    (arg2 : Memref sig .tc .vmem S512x4096 .f32) (harg2 : arg2.IsWhole) (arg3 : Memref sig .tc .vmem S512x1024 .f32)
    (harg3 : arg3.IsWhole) (arg4 : Memref sig .tc .vmem S4096x128 .f32) (harg4 : arg4.IsWhole)
    (arg5 : Memref sig .tc .vmem S1024x128 .f32) (harg5 : arg5.IsWhole) (arg6 : Memref sig .tc .vmem S256x8 .f32)
    (harg6 : arg6.IsWhole) (arg7 : Memref sig .tc .vmem S512x8 .f32) (harg7 : arg7.IsWhole)
    (arg8 : Memref sig .tc .vmem S512x8 .f32) (harg8 : arg8.IsWhole)
    (x0 : Vec Ideal S1 .f32) (x1 : Vec Ideal S512x4096 .f32) (x2 : Vec Ideal S512x1024 .f32) (x3 : Vec Ideal S4096x128 .f32)
    (x4 : Vec Ideal S1024x128 .f32) (x5 : Vec Ideal S256x8 .f32) :
    out0_A_6 c i arg1 harg1 arg2 harg2 arg3 harg3 arg4 harg4 arg5 harg5 arg6 harg6 arg7 harg7 arg8 harg8 x0 x1 x2 x3 x4 x5
      = k0_pay2 (F := Ideal) x1 x3 x2 x4 (upper x5) (lower x5) (x0 (ix1 0)) := by
  unfold out0_A_6
  rw [View.read_writes_junk_eq_canon]
  unfold kernelRun0_A
  dsimp only
  unfold kernelRun0_A.sl.r
  rw [View.canon_unit_zero hz]
  simp only [View.readAt_eq_ld, harg1.read_unread, harg2.read_unread, harg3.read_unread, harg4.read_unread,
    harg5.read_unread, harg6.read_unread]
  rw [View.ld_unit_zero hz, View.ld_unit_zero hz, View.ld_unit_zero hz, View.ld_unit_zero hz]
  refine congr (congrArg₂ (k0_pay2 (F := Ideal) x1 x3 x2 x4) (funext fun j => ?_) (funext fun j => ?_)) ?_
  · pointwise [upper]
  · pointwise [lower]
  · exact congrArg x0 (funext fun a => by match a with | ⟨0, _⟩ => rfl)

/-! ## The blocks of a grid point -/

variable (m : (ℓ : Loc nD τ sig) → Buf (Elt Ideal) ℓ) (ρ : Dev nD → PrngReg)

/-- The scalar operand as the grid finds it: one divided by the clamped temperature. -/
theorem entry_scale (c : Dev nD) :
    @Eq (FVec Ideal S1 .f32) (V m c main_call0_v2)
      (Host.divf (broadcastInDim S1 ![] bcast_S_S1 (constant S_ .f32 0x3F800000#32))
        (maximumf (broadcastInDim S1 ![] bcast_S_S1 (id (constant S_ .f32 0x3DCCCCCD#32)))
          (m ((c : Thread nD τ).loc main_arg5)))) := by
  simp only [V, hostOps0, StableHlo.TRef.nullary, StableHlo.TRef.binary, StableHlo.TRef.unary, StableHlo.TRef.toBuf,
    StableHlo.TRef.ofBuf, cast_eq]
  after_results

/-- Every window's block index at grid point `t`: the row windows' is `t`, the others' zero. -/
theorem idx : ∀ t : Fin cfg0.N,
    (win0_0.index t (0 : Fin 1) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- There are sixteen grid points. -/
theorem lt16 (t : Fin cfg0.N) : t.val < 16 := lt_of_lt_of_eq t.isLt N_0

/-- Row `r` of grid point `t`'s block is row `512 t + r` of the array. -/
def row (t : Fin cfg0.N) (r : Fin 512) : Fin 8192 := ⟨t.val * 512 + r.val, by have := lt16 t; omega⟩

/-- Row `r` of grid point `t`'s block of the features is row `512 t + r` of the features. -/
theorem iblk1_at (c : Dev nD) (t : Fin cfg0.N) (r : Fin 512) (k : Fin 4096) :
    (show FVec Ideal S512x4096 .f32 from iblk m c 1 t) (ix2 r k)
      = (show FVec Ideal S8192x4096 .f32 from m ((c : Thread nD τ).loc main_arg0)) (ix2 (row t r) k) := by
  obtain ⟨e0, ⟨e1, e1'⟩, -⟩ := idx t
  show V m c main_arg0 (((cfg0.win 1).blk t).view.emb (ix2 r k)) = _
  rw [V_main_arg0]
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 4096 + 1 * k.val = k.val; omega

/-- The same for the text features. -/
theorem iblk2_at (c : Dev nD) (t : Fin cfg0.N) (r : Fin 512) (k : Fin 1024) :
    (show FVec Ideal S512x1024 .f32 from iblk m c 2 t) (ix2 r k)
      = (show FVec Ideal S8192x1024 .f32 from m ((c : Thread nD τ).loc main_arg1)) (ix2 (row t r) k) := by
  obtain ⟨-, -, ⟨e, e'⟩, -⟩ := idx t
  show V m c main_arg1 (((cfg0.win 2).blk t).view.emb (ix2 r k)) = _
  rw [V_main_arg1]
  refine congrArg _ (funext fun a => Fin.ext ?_)
  match a with
  | ⟨0, _⟩ => show win0_2.index t (0 : Fin 2) * 512 + 1 * r.val = t.val * 512 + r.val; omega
  | ⟨1, _⟩ => show win0_2.index t (1 : Fin 2) * 1024 + 1 * k.val = k.val; omega

/-- Every grid point's block of the feature projection is the whole matrix. -/
theorem iblk3_eq (c : Dev nD) (t : Fin cfg0.N) : iblk m c 3 t = m ((c : Thread nD τ).loc main_arg2) := by
  obtain ⟨-, -, -, ⟨e, e'⟩, -⟩ := idx t
  funext j
  show V m c main_arg2 (((cfg0.win 3).blk t).view.emb j) = _
  rw [V_main_arg2]
  refine congrArg _ (funext fun a => Fin.ext ?_)
  match a with
  | ⟨0, _⟩ => show win0_3.index t (0 : Fin 2) * 4096 + 1 * (j 0).val = (j 0).val; omega
  | ⟨1, _⟩ => show win0_3.index t (1 : Fin 2) * 128 + 1 * (j 1).val = (j 1).val; omega

/-- The same for the text projection. -/
theorem iblk4_eq (c : Dev nD) (t : Fin cfg0.N) : iblk m c 4 t = m ((c : Thread nD τ).loc main_arg3) := by
  obtain ⟨-, -, -, -, ⟨e, e'⟩, -⟩ := idx t
  funext j
  show V m c main_arg3 (((cfg0.win 4).blk t).view.emb j) = _
  rw [V_main_arg3]
  refine congrArg _ (funext fun a => Fin.ext ?_)
  match a with
  | ⟨0, _⟩ => show win0_4.index t (0 : Fin 2) * 1024 + 1 * (j 0).val = (j 0).val; omega
  | ⟨1, _⟩ => show win0_4.index t (1 : Fin 2) * 128 + 1 * (j 1).val = (j 1).val; omega

/-- The same for the expert matrix. -/
theorem iblk5_eq (c : Dev nD) (t : Fin cfg0.N) : iblk m c 5 t = m ((c : Thread nD τ).loc main_arg4) := by
  obtain ⟨-, -, -, -, -, ⟨e, e'⟩, -⟩ := idx t
  funext j
  show V m c main_arg4 (((cfg0.win 5).blk t).view.emb j) = _
  rw [V_main_arg4]
  refine congrArg _ (funext fun a => Fin.ext ?_)
  match a with
  | ⟨0, _⟩ => show win0_5.index t (0 : Fin 2) * 256 + 1 * (j 0).val = (j 0).val; omega
  | ⟨1, _⟩ => show win0_5.index t (1 : Fin 2) * 8 + 1 * (j 1).val = (j 1).val; omega

/-- The one scalar a grid point reads is the reciprocal of the clamped temperature. -/
theorem iblk0_at (c : Dev nD) (t : Fin cfg0.N) :
    (show FVec Ideal S1 .f32 from iblk m c 0 t) (ix1 0)
      = Ideal.div 1 (max floorT ((show FVec Ideal S1 .f32 from m ((c : Thread nD τ).loc main_arg5)) (ix1 0))) := by
  obtain ⟨e, -⟩ := idx t
  show V m c main_call0_v2 (((cfg0.win 0).blk t).view.emb (ix1 0)) = _
  have h : ((cfg0.win 0).blk t).view.emb (ix1 0) = (ix1 0 : S1.Idx) := by
    refine funext fun a => Fin.ext ?_
    match a with
    | ⟨0, _⟩ => show win0_0.index t (0 : Fin 1) * 1 + 1 * 0 = 0; omega
  rw [h]
  refine (congrFun (entry_scale m c) (ix1 0)).trans ?_
  pointwise
  rfl

/-- Element `(r, e)` of grid point `t`'s block of the probabilities is element `(512 t + r, e)` of the array. -/
theorem emb6 (t : Fin cfg0.N) (r : Fin 512) (e : Fin 8) :
    ((cfg0.win 6).blk t).view.emb (ix2 r e) = (ix2 (row t r) e : S8192x8.Idx) := by
  obtain ⟨-, -, -, -, -, -, ⟨e0, e1⟩, -⟩ := idx t
  refine funext fun a => Fin.ext ?_
  match a with
  | ⟨0, _⟩ => show win0_6.index t (0 : Fin 2) * 512 + 1 * r.val = t.val * 512 + r.val; omega
  | ⟨1, _⟩ => show win0_6.index t (1 : Fin 2) * 8 + 1 * e.val = e.val; omega

/-- The same for the logits. -/
theorem emb7 (t : Fin cfg0.N) (r : Fin 512) (e : Fin 8) :
    ((cfg0.win 7).blk t).view.emb (ix2 r e) = (ix2 (row t r) e : S8192x8.Idx) := by
  obtain ⟨-, -, -, -, -, -, -, e0, e1⟩ := idx t
  refine funext fun a => Fin.ext ?_
  match a with
  | ⟨0, _⟩ => show win0_7.index t (0 : Fin 2) * 512 + 1 * r.val = t.val * 512 + r.val; omega
  | ⟨1, _⟩ => show win0_7.index t (1 : Fin 2) * 8 + 1 * e.val = e.val; omega

/-! ## The arrays after the run -/

/-- All the logits over the argument arrays as launched. -/
abbrev L (c : Dev nD) : FVec Ideal S8192x8 .f32 :=
  GLogits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Grid point `t`'s first stored value at `(r, e)` is the logit of row `512 t + r` at expert `e`. -/
theorem point (c : Dev nD) (t : Fin cfg0.N) (r : Fin 512) (e : Fin 8) :
    k0_pay1 (F := Ideal) (iblk m c 1 t) (iblk m c 3 t) (iblk m c 2 t) (iblk m c 4 t) (upper (iblk m c 5 t))
      (lower (iblk m c 5 t)) ((show FVec Ideal S1 .f32 from iblk m c 0 t) (ix1 0)) (ix2 r e) = L m c (ix2 (row t r) e) := by
  refine (pay1_at _ _ _ _ _ _ _
    (fun j e => (show FVec Ideal S256x8 .f32 from iblk m c 5 t) (ix2 j e)) _ (fun _ _ => rfl) (fun _ _ => rfl)
    (iblk0_at m c t) r e).trans ?_
  rw [iblk3_eq, iblk4_eq, iblk5_eq]
  show logit (fun k => (show FVec Ideal S512x4096 .f32 from iblk m c 1 t) (ix2 r k))
    (fun k => (show FVec Ideal S512x1024 .f32 from iblk m c 2 t) (ix2 r k)) _ _ _ _ e = _
  rw [funext (iblk1_at m c t r), funext (iblk2_at m c t r)]
  rfl

/-- What grid point `t` writes back to the logits is its block of the logits. -/
theorem flushed7_eq (c : Dev nD) (t : Fin cfg0.N) :
    (dats m 0 c).flushed 7 t = ((cfg0.win 7).blk t).view.read (Elt Ideal) (L m c) := by
  rw [flushed7_A, out7_eq]
  funext j
  obtain ⟨r, e, rfl⟩ : ∃ (r : Fin 512) (e : Fin 8), j = (ix2 r e : S512x8.Idx) := ⟨j 0, j 1, eq_ix2 j⟩
  show k0_pay1 (F := Ideal) _ _ _ _ _ _ _ (ix2 r e) = L m c (((cfg0.win 7).blk t).view.emb (ix2 r e))
  rw [emb7]
  exact point m c t r e

/-- What grid point `t` writes back to the probabilities is its block of the rows' softmaxes. -/
theorem flushed6_eq (c : Dev nD) (t : Fin cfg0.N) :
    (dats m 0 c).flushed 6 t = ((cfg0.win 6).blk t).view.read (Elt Ideal) (GProbs (L m c)) := by
  rw [flushed6_A, out6_eq]
  funext j
  obtain ⟨r, e, rfl⟩ : ∃ (r : Fin 512) (e : Fin 8), j = (ix2 r e : S512x8.Idx) := ⟨j 0, j 1, eq_ix2 j⟩
  show k0_pay2 (F := Ideal) _ _ _ _ _ _ _ (ix2 r e) = GProbs (L m c) (((cfg0.win 6).blk t).view.emb (ix2 r e))
  rw [emb6]
  refine (pay2_at _ _ _ _ _ _ _ r e).trans ?_
  exact congrFun (congrArg softmax (funext fun e => point m c t r e)) e

/-- The grid point whose block holds row `i`. -/
def pt (i : Fin 8192) : Fin cfg0.N := ⟨i.val / 512, by show _ < grid0.N; rw [Gen.N_0]; omega⟩

/-- Row `i` is its own remainder's row of that point's block. -/
theorem row_pt (i : Fin 8192) : row (pt i) ⟨i.val % 512, by omega⟩ = i :=
  Fin.ext (by show i.val / 512 * 512 + i.val % 512 = i.val; omega)

/-- An array index that a block's embedding reaches is in that block. -/
theorem mem_blk6 (t : Fin cfg0.N) (i : S8192x8.Idx) (y : S512x8.Idx) (h : ((cfg0.win 6).blk t).view.emb y = i) :
    i ∈ ((cfg0.win 6).blk t).view.set := by
  subst h
  exact ((cfg0.win 6).blk t).view.emb_mem_set y

/-- Every element of the probabilities is in some grid point's block. -/
theorem cover6 (i : S8192x8.Idx) : ∃ t : Fin cfg0.N, (cfg0.win 6).flush t = true ∧ i ∈ ((cfg0.win 6).blk t).view.set :=
  ⟨pt (i 0), flush0_6 _, by
    have h : ((cfg0.win 6).blk (pt (i 0))).view.emb (ix2 ⟨(i 0).val % 512, by omega⟩ (i 1)) = i :=
      (emb6 (pt (i 0)) ⟨(i 0).val % 512, by omega⟩ (i 1)).trans
        ((congrArg (fun r => (ix2 r (i 1) : S8192x8.Idx)) (row_pt (i 0))).trans (eq_ix2 i).symm)
    exact mem_blk6 _ _ _ h⟩

/-- An array index that a block's embedding reaches is in that block. -/
theorem mem_blk7 (t : Fin cfg0.N) (i : S8192x8.Idx) (y : S512x8.Idx) (h : ((cfg0.win 7).blk t).view.emb y = i) :
    i ∈ ((cfg0.win 7).blk t).view.set := by
  subst h
  exact ((cfg0.win 7).blk t).view.emb_mem_set y

/-- Every element of the logits is in some grid point's block. -/
theorem cover7 (i : S8192x8.Idx) : ∃ t : Fin cfg0.N, (cfg0.win 7).flush t = true ∧ i ∈ ((cfg0.win 7).blk t).view.set :=
  ⟨pt (i 0), flush0_7 _, by
    have h : ((cfg0.win 7).blk (pt (i 0))).view.emb (ix2 ⟨(i 0).val % 512, by omega⟩ (i 1)) = i :=
      (emb7 (pt (i 0)) ⟨(i 0).val % 512, by omega⟩ (i 1)).trans
        ((congrArg (fun r => (ix2 r (i 1) : S8192x8.Idx)) (row_pt (i 0))).trans (eq_ix2 i).symm)
    exact mem_blk7 _ _ _ h⟩

/-- The probabilities after the run. -/
theorem final6 (c : Dev nD) : (dats m 0 c).arrAt 6 cfg0.N = GProbs (L m c) :=
  (dats m 0 c).arrAt_eq_of_cover 6 (GProbs (L m c)) (fun t _ => flushed6_eq m c t) cover6

/-- The logits after the run. -/
theorem final7 (c : Dev nD) : (dats m 0 c).arrAt 7 cfg0.N = L m c :=
  (dats m 0 c).arrAt_eq_of_cover 7 (L m c) (fun t _ => flushed7_eq m c t) cover7

/-- The kernel's run: it ends with the probabilities at the rows' softmaxes, the logits at the logits, and the six
    arguments unchanged. -/
theorem run : θ_run defs (onTc (τ := τ) (main (F := Ideal))) ⟨m, fun _ => 0, ρ⟩ fun r => ∀ c : Dev nD,
      r.2.mem ((c : Thread nD τ).loc main_v0_0) = GProbs (L m c)
      ∧ r.2.mem ((c : Thread nD τ).loc main_v0_1) = L m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (run_blocks m ρ)

end Cert.Proof.KernelValue

end
-- ==== Proof.RefValue.lean ====
/- Hand-written: WHAT THE REFERENCE COMPUTES, element by element. Its two results are named as terms over the six argument
   arrays (`Logits`, `Probs`) and read at a row and an expert. -/
module

public import proofs.«01_k».proof.Proof.Gen.ReferenceIdeal.Run
public import proofs.«01_k».proof.Proof.Router

@[expose] public section

set_option maxRecDepth 16384

noncomputable section

namespace Cert.Proof.RefValue

open Cert.ReferenceIdeal Cert.ReferenceIdeal.Gen Idealize.ShloMosaic Idealize.ShloMosaic.TcCoe Idealize.SL.Sem
open Cert.Proof.Scalar Cert.Proof.Router

/-- The reference's logits as a term over the argument arrays. -/
def Logits (X : FVec Ideal S8192x4096 .f32) (Y : FVec Ideal S8192x1024 .f32) (A : FVec Ideal S4096x128 .f32)
    (B : FVec Ideal S1024x128 .f32) (C : FVec Ideal S256x8 .f32) (T : FVec Ideal S1 .f32) : FVec Ideal S8192x8 .f32 :=
  Host.divf
    (Host.dotGeneral dot_S8192x256_S256x8_S8192x8_1_0_0_1_n_n none
      (concatenate S8192x256 1
        [⟨S8192x128, Host.dotGeneral dot_S8192x4096_S4096x128_S8192x128_1_0_0_1_n_n none X A⟩,
          ⟨S8192x128, Host.dotGeneral dot_S8192x1024_S1024x128_S8192x128_1_0_0_1_n_n none Y B⟩]
        concatenates_S8192x128_S8192x128_S8192x256_d1) C)
    (broadcastInDim S8192x8 ![0, 1] bcast_S1x1_S8192x8_0_1
      (broadcastInDim S1x1 ![1] bcast_S1_S1x1_1
        (maximumf (broadcastInDim S1 ![] bcast_S_S1 (id (constant S_ .f32 0x3DCCCCCD#32))) T)))

/-- The reference's numerators: the exponential of each logit less its row's maximum. -/
def Numer (L : FVec Ideal S8192x8 .f32) : FVec Ideal S8192x8 .f32 :=
  Host.exp (subf L (broadcastInDim S8192x8 ![0, 1] bcast_S8192x1_S8192x8_0_1
    (broadcastInDim S8192x1 ![0] bcast_S8192_S8192x1_0
      (maximumf (broadcastInDim S8192 ![] bcast_S_S8192 (constant S_ .f32 0xFF800000#32))
        (Host.reduce FloatOps.maximumf L (constant S_ .f32 0xFF800000#32) reducesTo_S8192x8_S8192_d1 h_S_)))))

/-- The reference's probabilities as a term over its logits. -/
def Probs (L : FVec Ideal S8192x8 .f32) : FVec Ideal S8192x8 .f32 :=
  Host.divf (Numer L) (broadcastInDim S8192x8 ![0, 1] bcast_S8192x1_S8192x8_0_1
    (broadcastInDim S8192x1 ![0] bcast_S8192_S8192x1_0
      (Host.reduceAdd (Numer L) (constant S_ .f32 0x00000000#32) reducesTo_S8192x8_S8192_d1 h_S_)))

/-- The reference's logit of row `r` at expert `e`: the contraction over the 256 joined features is the sum of the
    contractions over its two halves. -/
theorem logits_at (X : FVec Ideal S8192x4096 .f32) (Y : FVec Ideal S8192x1024 .f32) (A : FVec Ideal S4096x128 .f32)
    (B : FVec Ideal S1024x128 .f32) (C : FVec Ideal S256x8 .f32) (T : FVec Ideal S1 .f32) (r : Fin 8192) (e : Fin 8) :
    Logits X Y A B C T (ix2 r e)
      = logit (fun k => X (ix2 r k)) (fun k => Y (ix2 r k)) (fun k j => A (ix2 k j)) (fun k j => B (ix2 k j))
          (fun j e => C (ix2 j e)) (T (ix1 0)) e := by
  pointwise [Logits]
  rfl

/-- The reference's probability of row `r` at expert `e`: the softmax of that row of logits. -/
theorem probs_at (L : FVec Ideal S8192x8 .f32) (r : Fin 8192) (e : Fin 8) :
    Probs L (ix2 r e) = softmax (fun e => L (ix2 r e)) e := by
  pointwise [Probs, Numer]
  rw [negInf, bot_sup_eq]
  rfl

end Cert.Proof.RefValue

end
-- ==== Proof.Equation.lean ====
/- Hand-written: THE EQUATION. The kernel's two result arrays, as functions of the argument arrays, are the reference's two
   results; and the reference's run ends with those results. -/
module

public import proofs.«01_k».proof.Proof.KernelValue
public import proofs.«01_k».proof.Proof.RefValue

@[expose] public section

set_option maxRecDepth 16384

noncomputable section

namespace Cert.Proof.Equation

open Cert.ReferenceIdeal Cert.ReferenceIdeal.Gen Idealize.ShloMosaic Idealize.ShloMosaic.TcCoe Idealize.SL.Sem
open Cert.Proof.RefValue Cert.Proof.KernelValue

/-- The reference's logits are the kernel's, at any arguments. -/
theorem logits_eq (X : FVec Ideal S8192x4096 .f32) (Y : FVec Ideal S8192x1024 .f32) (A : FVec Ideal S4096x128 .f32)
    (B : FVec Ideal S1024x128 .f32) (C : FVec Ideal S256x8 .f32) (T : FVec Ideal S1 .f32) :
    Logits X Y A B C T = GLogits X Y A B C T := by
  funext i
  obtain ⟨r, e, rfl⟩ : ∃ (r : Fin 8192) (e : Fin 8), i = (ix2 r e : S8192x8.Idx) := ⟨i 0, i 1, eq_ix2 i⟩
  exact logits_at X Y A B C T r e

/-- The reference's probabilities are the kernel's, at any logits. -/
theorem probs_eq (L : FVec Ideal S8192x8 .f32) : Probs L = GProbs L := by
  funext i
  obtain ⟨r, e, rfl⟩ : ∃ (r : Fin 8192) (e : Fin 8), i = (ix2 r e : S8192x8.Idx) := ⟨i 0, i 1, eq_ix2 i⟩
  exact probs_at L r e

variable (m : (ℓ : Loc nD τ sig) → Buf (Elt Ideal) ℓ) (ρ : Dev nD → PrngReg)

/-- The logits over the reference's argument arrays. -/
abbrev RL (c : Dev nD) : FVec Ideal S8192x8 .f32 :=
  GLogits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's run: it ends with the rows' softmaxes, the logits, and the six arguments unchanged. -/
theorem ref_run : θ_run defs (onTc (τ := τ) (main (F := Ideal))) ⟨m, fun _ => 0, ρ⟩ fun r => ∀ c : Dev nD,
      r.2.mem ((c : Thread nD τ).loc main_v18) = GProbs (RL m c)
      ∧ r.2.mem ((c : Thread nD τ).loc main_v7) = RL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
      have hl := logits_eq (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      exact ⟨(h c).1.trans ((congrArg Probs hl).trans (probs_eq _)), (h c).2.1.trans hl, (h c).2.2⟩)
    (Cert.ReferenceIdeal.Value.run m ρ)

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference terminates with its arguments unchanged and every counter at zero. -/
theorem ref_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.Proof.Equation.ref_run m ρ)

/-- From agreeing arguments the kernel and the reference end with equal probabilities and equal logits. -/
theorem algebraic : Cert.algebraic_KernelIdeal_ReferenceIdeal := by
  intro m ρ m' ρ' _ hagree
  have hL : ∀ c, Cert.Proof.Equation.RL m' c = Cert.Proof.KernelValue.L m c := by
    intro c
    obtain ⟨h0, h1, h2, h3, h4, h5⟩ := hagree c
    show Cert.Proof.KernelValue.GLogits _ _ _ _ _ _ = Cert.Proof.KernelValue.GLogits _ _ _ _ _ _
    rw [h0, h1, h2, h3, h4, h5]
  refine ⟨fun c => Cert.Proof.KernelValue.GProbs (Cert.Proof.KernelValue.L m c), fun c => Cert.Proof.KernelValue.L m c,
    Cert.Proof.KernelValue.run m ρ, ?_⟩
  exact (θ_run Cert.ReferenceIdeal.defs _ _).mono
    (fun r h c => ⟨(h c).1.trans (congrArg Cert.Proof.KernelValue.GProbs (hL c)), (h c).2.1.trans (hL c), (h c).2.2⟩)
    (Cert.Proof.Equation.ref_run m' ρ')

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, ref_frame, trivial, algebraic⟩

end Cert.Proof

end
